-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1677721 : Shape := ⟨2, ![2, 1677721]⟩
abbrev S1677721 : Shape := ⟨1, ![1677721]⟩
abbrev S1x1677721 : Shape := ⟨2, ![1, 1677721]⟩
abbrev S_ : Shape := ⟨0, ![]⟩
abbrev S4096x4096 : Shape := ⟨2, ![4096, 4096]⟩
abbrev S1677721x1 : Shape := ⟨2, ![1677721, 1]⟩
abbrev S1677721x2 : Shape := ⟨2, ![1677721, 2]⟩
abbrev S512x512 : Shape := ⟨2, ![512, 512]⟩

abbrev nBuf : Space → Nat
  | .hbm => 27
  | .vmem => 6
  | .smem => 0
  | _ => 0

abbrev bufTy : (tb : Table) → Fin (tcTables nBuf tb) → BufTy
  | .hbm, ⟨0, _⟩ => ⟨S2x1677721, .i32⟩
  | .hbm, ⟨1, _⟩ => ⟨S1677721, .f32⟩
  | .hbm, ⟨2, _⟩ => ⟨S1x1677721, .i32⟩
  | .hbm, ⟨3, _⟩ => ⟨S1677721, .i32⟩
  | .hbm, ⟨4, _⟩ => ⟨S1x1677721, .i32⟩
  | .hbm, ⟨5, _⟩ => ⟨S1677721, .i32⟩
  | .hbm, ⟨6, _⟩ => ⟨S_, .f32⟩
  | .hbm, ⟨7, _⟩ => ⟨S4096x4096, .f32⟩
  | .hbm, ⟨8, _⟩ => ⟨S_, .i32⟩
  | .hbm, ⟨9, _⟩ => ⟨S1677721, .i32⟩
  | .hbm, ⟨10, _⟩ => ⟨S1677721, .i1⟩
  | .hbm, ⟨11, _⟩ => ⟨S_, .i32⟩
  | .hbm, ⟨12, _⟩ => ⟨S1677721, .i32⟩
  | .hbm, ⟨13, _⟩ => ⟨S1677721, .i32⟩
  | .hbm, ⟨14, _⟩ => ⟨S1677721, .i32⟩
  | .hbm, ⟨15, _⟩ => ⟨S_, .i32⟩
  | .hbm, ⟨16, _⟩ => ⟨S1677721, .i32⟩
  | .hbm, ⟨17, _⟩ => ⟨S1677721, .i1⟩
  | .hbm, ⟨18, _⟩ => ⟨S_, .i32⟩
  | .hbm, ⟨19, _⟩ => ⟨S1677721, .i32⟩
  | .hbm, ⟨20, _⟩ => ⟨S1677721, .i32⟩
  | .hbm, ⟨21, _⟩ => ⟨S1677721, .i32⟩
  | .hbm, ⟨22, _⟩ => ⟨S1677721x1, .i32⟩
  | .hbm, ⟨23, _⟩ => ⟨S1677721x1, .i32⟩
  | .hbm, ⟨24, _⟩ => ⟨S1677721x2, .i32⟩
  | .hbm, ⟨25, _⟩ => ⟨S4096x4096, .f32⟩
  | .hbm, ⟨26, _⟩ => ⟨S4096x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S2x1677721, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x1677721 : Shape := ⟨2, ![2, 1677721]⟩
abbrev S1677721 : Shape := ⟨1, ![1677721]⟩
abbrev S1x1677721 : Shape := ⟨2, ![1, 1677721]⟩
abbrev S_ : Shape := ⟨0, ![]⟩
abbrev S4096x4096 : Shape := ⟨2, ![4096, 4096]⟩
abbrev S1677721x1 : Shape := ⟨2, ![1677721, 1]⟩
abbrev S1677721x2 : Shape := ⟨2, ![1677721, 2]⟩

abbrev nBuf : Space → Nat
  | .hbm => 31
  | .vmem => 0
  | .smem => 0
  | _ => 0

abbrev bufTy : (tb : Table) → Fin (tcTables nBuf tb) → BufTy
  | .hbm, ⟨0, _⟩ => ⟨S2x1677721, .i32⟩
  | .hbm, ⟨1, _⟩ => ⟨S1677721, .f32⟩
  | .hbm, ⟨2, _⟩ => ⟨S1x1677721, .i32⟩
  | .hbm, ⟨3, _⟩ => ⟨S1677721, .i32⟩
  | .hbm, ⟨4, _⟩ => ⟨S1x1677721, .i32⟩
  | .hbm, ⟨5, _⟩ => ⟨S1677721, .i32⟩
  | .hbm, ⟨6, _⟩ => ⟨S_, .f32⟩
  | .hbm, ⟨7, _⟩ => ⟨S4096x4096, .f32⟩
  | .hbm, ⟨8, _⟩ => ⟨S_, .i32⟩
  | .hbm, ⟨9, _⟩ => ⟨S1677721, .i32⟩
  | .hbm, ⟨10, _⟩ => ⟨S1677721, .i1⟩
  | .hbm, ⟨11, _⟩ => ⟨S_, .i32⟩
  | .hbm, ⟨12, _⟩ => ⟨S1677721, .i32⟩
  | .hbm, ⟨13, _⟩ => ⟨S1677721, .i32⟩
  | .hbm, ⟨14, _⟩ => ⟨S1677721, .i32⟩
  | .hbm, ⟨15, _⟩ => ⟨S_, .i32⟩
  | .hbm, ⟨16, _⟩ => ⟨S1677721, .i32⟩
  | .hbm, ⟨17, _⟩ => ⟨S1677721, .i1⟩
  | .hbm, ⟨18, _⟩ => ⟨S_, .i32⟩
  | .hbm, ⟨19, _⟩ => ⟨S1677721, .i32⟩
  | .hbm, ⟨20, _⟩ => ⟨S1677721, .i32⟩
  | .hbm, ⟨21, _⟩ => ⟨S1677721, .i32⟩
  | .hbm, ⟨22, _⟩ => ⟨S1677721x1, .i32⟩
  | .hbm, ⟨23, _⟩ => ⟨S1677721x1, .i32⟩
  | .hbm, ⟨24, _⟩ => ⟨S1677721x2, .i32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | _, _ => ⟨S2x1677721, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Blocks.lean ====
/- Hand-written, untrusted: what the tiled kernel leaves in its result array, as one function of the dense matrix that the
   host part of the program hands it. Each grid point `(i, j)` reads the tiles `(i, j)` and `(j, i)` of that one matrix,
   and writes half of the first plus the transposed second to tile `(i, j)`. Everything here holds for any float values. -/
module

public import proofs.«01_k».proof.Proof.Gen.KernelIdeal.Value

@[expose] public section

noncomputable section

namespace Cert.Proof.Blocks

open Cert.KernelIdeal Cert.KernelIdeal.Gen Cert.KernelIdeal.Value Idealize.ShloMosaic Idealize.ShloMosaic.TcCoe Idealize.SL.Sem

variable {F : FTy → Type} [FloatOps F]

/-- The mirror image of a matrix index: row and column exchanged. -/
def mirror (i : S4096x4096.Idx) : S4096x4096.Idx := fun a => match a with | ⟨0, _⟩ => i 1 | ⟨1, _⟩ => i 0

/-- Half of a matrix plus its transpose, entry by entry. -/
def sym (A : Vec F S4096x4096 .f32) : Vec F S4096x4096 .f32 := fun i =>
  FloatOps.mulf (Scalar.ofBits .f32 0x3F000000#32) (FloatOps.addf (A i) (A (mirror i)))

variable (m : (ℓ : Loc nD τ sig) → Buf (Elt F) ℓ) (ρ : Dev nD → PrngReg)

/-! ## Which tile each grid point touches -/

/-- Point `t` writes the tile in tile row `t / 8` and tile column `t % 8`. -/
theorem index_out : ∀ t : Fin cfg0.N, win0_2.index t (0 : Fin 2) = t.val / 8 ∧ win0_2.index t (1 : Fin 2) = t.val % 8 :=
  (by decide +kernel : ∀ t : Fin grid0.N, _)

/-- The first operand's tile is the one written. -/
theorem index_fst : ∀ t : Fin cfg0.N, win0_0.index t (0 : Fin 2) = t.val / 8 ∧ win0_0.index t (1 : Fin 2) = t.val % 8 :=
  (by decide +kernel : ∀ t : Fin grid0.N, _)

/-- The second operand's tile is the mirror image of the one written. -/
theorem index_snd : ∀ t : Fin cfg0.N, win0_1.index t (0 : Fin 2) = t.val % 8 ∧ win0_1.index t (1 : Fin 2) = t.val / 8 :=
  (by decide +kernel : ∀ t : Fin grid0.N, _)

/-- Where entry `y` of the tile written at point `t` lies in the result. -/
theorem emb_out (t : Fin cfg0.N) (y : S512x512.Idx) :
    ((((cfg0.win 2).blk t).view.emb y : S4096x4096.Idx) 0).val = t.val / 8 * 512 + (y 0).val
      ∧ ((((cfg0.win 2).blk t).view.emb y : S4096x4096.Idx) 1).val = t.val % 8 * 512 + (y 1).val := by
  obtain ⟨h0, h1⟩ := index_out t
  constructor
  · show win0_2.index t (0 : Fin 2) * 512 + 1 * (y 0).val = _; rw [h0]; omega
  · show win0_2.index t (1 : Fin 2) * 512 + 1 * (y 1).val = _; rw [h1]; omega

/-- Entry `y` of the first operand's tile lies at the same place of the dense matrix. -/
theorem emb_fst (t : Fin cfg0.N) (y : S512x512.Idx) :
    (((cfg0.win 0).blk t).view.emb (ix2_0 y) : S4096x4096.Idx) = ((cfg0.win 2).blk t).view.emb y := by
  obtain ⟨h0, h1⟩ := index_fst t
  obtain ⟨e0, e1⟩ := emb_out t y
  refine Shape.idx_ext₂ (n := S4096x4096.size) (Eq.trans ?_ e0.symm) (Eq.trans ?_ e1.symm)
  · show win0_0.index t (0 : Fin 2) * 512 + 1 * (y 0).val = _; rw [h0]; omega
  · show win0_0.index t (1 : Fin 2) * 512 + 1 * (y 1).val = _; rw [h1]; omega

/-- The entry of the second operand's tile that the body's transpose brings to `y` lies at the mirror image. -/
theorem emb_snd (t : Fin cfg0.N) (y : S512x512.Idx) :
    (((cfg0.win 1).blk t).view.emb (ix2_1 y) : S4096x4096.Idx) = mirror (((cfg0.win 2).blk t).view.emb y) := by
  obtain ⟨h0, h1⟩ := index_snd t
  obtain ⟨e0, e1⟩ := emb_out t y
  refine Shape.idx_ext₂ (n := S4096x4096.size) (Eq.trans ?_ e1.symm) (Eq.trans ?_ e0.symm)
  · show win0_1.index t (0 : Fin 2) * 512 + 1 * (y 1).val = _; rw [h0]; omega
  · show win0_1.index t (1 : Fin 2) * 512 + 1 * (y 0).val = _; rw [h1]; omega

/-! ## What is written, and where -/

theorem hz : (![0, 0] : Fin 2 → Nat) = fun _ => 0 := funext fun a => by fin_cases a <;> rfl

/-- The body's result for two tiles, entry by entry: half of the first plus the transposed second. -/
theorem out_apply (x0 x1 : Vec F S512x512 .f32) (y : S512x512.Idx) : out0_2 x0 x1 y = E2 x0 x1 y := by
  unfold out0_2
  rw [canon2_eq, View.ld_unit_zero hz, View.ld_unit_zero hz]

/-- Point `t` writes back its tile of the symmetrised dense matrix. -/
theorem flushed_eq (c : Dev nD) (t : Fin cfg0.N) :
    (dats m 0 c).flushed 2 t = ((cfg0.win 2).blk t).view.read (Elt F) (sym (V m c main_v18)) := by
  rw [flushed2]
  funext y
  refine (out_apply (iblk m c 0 t) (iblk m c 1 t) y).trans ?_
  show FloatOps.mulf _ (FloatOps.addf (V m c main_v18 (((cfg0.win 0).blk t).view.emb (ix2_0 y)))
      (V m c main_v18 (((cfg0.win 1).blk t).view.emb (ix2_1 y))))
    = sym (V m c main_v18) (((cfg0.win 2).blk t).view.emb y)
  rw [emb_fst, emb_snd]
  rfl

/-- Every entry of the result lies in the tile of some point. -/
theorem covered (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 64 := N_0
  let t : Fin cfg0.N := ⟨(i 0).val / 512 * 8 + (i 1).val / 512, by omega⟩
  let y : S512x512.Idx := fun a => match a with
    | ⟨0, _⟩ => ⟨(i 0).val % 512, Nat.mod_lt _ (by decide)⟩
    | ⟨1, _⟩ => ⟨(i 1).val % 512, Nat.mod_lt _ (by decide)⟩
  have ht : t.val = (i 0).val / 512 * 8 + (i 1).val / 512 := rfl
  have hy0 : (y 0).val = (i 0).val % 512 := rfl
  have hy1 : (y 1).val = (i 1).val % 512 := rfl
  obtain ⟨e0, e1⟩ := emb_out t y
  have hi : (((cfg0.win 2).blk t).view.emb y : S4096x4096.Idx) = i :=
    Shape.idx_ext₂ (n := S4096x4096.size) (e0.trans (by omega)) (e1.trans (by omega))
  exact ⟨t, flush0_2 t, hi ▸ ((cfg0.win 2).blk t).view.emb_mem_set y⟩

/-- So the result array ends as the symmetrised dense matrix, whatever that matrix is. -/
theorem final (c : Dev nD) : (dats m 0 c).arrAt 2 cfg0.N = sym (V m c main_v18) :=
  (dats m 0 c).arrAt_eq_of_cover 2 (sym (V m c main_v18)) (fun t _ => flushed_eq m c t) covered

end Cert.Proof.Blocks

end
-- ==== Proof.Dense.lean ====
/- Hand-written, untrusted: the dense matrix that the host part of the kernel's program computes before the tiled kernel
   starts, as one term of the two argument arrays (`dense`), and the kernel's whole run: its result array is the
   symmetrised `dense`. Everything here holds for any float values. -/
module

public import proofs.«01_k».proof.Proof.Blocks
public import Idealize.ShloMosaic.Lib.StableHlo.Run

@[expose] public section

noncomputable section

namespace Cert.Proof.Dense

open Cert.KernelIdeal Cert.KernelIdeal.Gen Cert.KernelIdeal.Value Idealize.ShloMosaic Idealize.ShloMosaic.TcCoe Idealize.SL.Sem
open Idealize.ShloMosaic.StableHlo

variable {F : FTy → Type} [FloatOps F]

/-- Row or column numbers as jax reads an index: a negative one counts from the end. -/
def wrap (x : IVec S1677721 32) : IVec S1677721 32 :=
  select (cmpi .slt x (broadcastInDim S1677721 ![] bcast_S_S1677721 (constantI S_ 32 0#32)))
    (addi x (broadcastInDim S1677721 ![] bcast_S_S1677721 (constantI S_ 32 4096#32))) x

/-- The pairs (row, column), one for each value. -/
def coords (idx : IVec S2x1677721 32) : IVec S1677721x2 32 :=
  concatenate S1677721x2 1
    [⟨S1677721x1, broadcastInDim S1677721x1 ![0] bcast_S1677721_S1677721x1_0
        (wrap (shapeCast S1677721 (extractStridedSlice S1x1677721 ![0, 0] idx slices_S2x1677721_S1x1677721_0_0) shapeCasts_S1x1677721_S1677721))⟩,
     ⟨S1677721x1, broadcastInDim S1677721x1 ![0] bcast_S1677721_S1677721x1_0
        (wrap (shapeCast S1677721 (extractStridedSlice S1x1677721 ![1, 0] idx slices_S2x1677721_S1x1677721_1_0) shapeCasts_S1x1677721_S1677721))⟩]
    concatenates_S1677721x1_S1677721x1_S1677721x2_d1

/-- The coalesced matrix: zeros, with each value added at its row and column. -/
def dense (idx : IVec S2x1677721 32) (vals : FVec F S1677721 .f32) : FVec F S4096x4096 .f32 :=
  Host.scatterAdd scatter_S4096x4096_S1677721x2_S1677721_n_01_01_1
    (broadcastInDim S4096x4096 ![] bcast_S_S4096x4096 (constant S_ .f32 0x00000000#32)) (coords idx) vals

variable (m : (ℓ : Loc nD τ sig) → Buf (Elt F) ℓ) (ρ : Dev nD → PrngReg)

set_option maxHeartbeats 2000000 in
/-- The tiled kernel finds the coalesced matrix in its operand. -/
theorem entry (c : Dev nD) :
    V m c main_v18 = dense (m ((c : Thread nD τ).loc main_arg0)) (m ((c : Thread nD τ).loc main_arg1)) := by
  unfold dense coords wrap
  after_results <;> rfl

/-- The kernel's run: its result is half of the coalesced matrix plus its transpose; the arguments are unchanged. -/
theorem run : θ_run defs (onTc (τ := τ) (main (F := F))) ⟨m, fun _ => 0, ρ⟩ fun r => ∀ c : Dev nD,
      r.2.mem ((c : Thread nD τ).loc main_v19)
        = Blocks.sym (dense (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans ((Blocks.final m c).trans (congrArg Blocks.sym (entry m c))), (h c).2⟩)
    (run_blocks m ρ)

end Cert.Proof.Dense

end
-- ==== Proof.Plain.lean ====
/- Hand-written, untrusted: the reference's run, read against the kernel's functions. The reference transposes the whole
   coalesced matrix, adds it and halves the sum; entry by entry that is `Blocks.sym` of the same coalesced matrix. -/
module

public import proofs.«01_k».proof.Proof.Dense
public import proofs.«01_k».proof.Proof.Gen.ReferenceIdeal.Run

@[expose] public section

noncomputable section

namespace Cert.Proof.Plain

open Cert.ReferenceIdeal Cert.ReferenceIdeal.Gen Idealize.ShloMosaic Idealize.ShloMosaic.TcCoe Idealize.SL.Sem

variable {F : FTy → Type} [FloatOps F]

/-- Half of a matrix plus its transpose, as whole-array operations, is `Blocks.sym`. -/
theorem whole (A : FVec F S4096x4096 .f32) :
    mulf (broadcastInDim S4096x4096 ![] bcast_S_S4096x4096 (constant S_ .f32 0x3F000000#32))
      (addf A (transpose S4096x4096 [1, 0] A transposes_S4096x4096_S4096x4096_1_0)) = Blocks.sym A := by
  funext i
  show FloatOps.mulf _ (FloatOps.addf (A i) (transpose S4096x4096 [1, 0] A transposes_S4096x4096_S4096x4096_1_0 i))
    = FloatOps.mulf _ (FloatOps.addf (A i) (A (Blocks.mirror i)))
  rw [transpose_apply [1, 0] A _ i (Blocks.mirror i)
    (fun b => match b with | ⟨0, _⟩ => rfl | ⟨1, _⟩ => rfl)]
  rfl

variable (m : (ℓ : Loc nD τ sig) → Buf (Elt F) ℓ) (ρ : Dev nD → PrngReg)

/-- The reference's run: its result is half of the coalesced matrix plus its transpose; the arguments are unchanged. -/
theorem run : θ_run defs (onTc (τ := τ) (main (F := F))) ⟨m, fun _ => 0, ρ⟩ fun r => ∀ c : Dev nD,
      r.2.mem ((c.tc : Thread nD τ).loc main_v22)
        = Blocks.sym (Dense.dense (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (whole _), (h c).2⟩) (Cert.ReferenceIdeal.Value.run m ρ)

end Cert.Proof.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Plain
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with its arguments unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Plain.run (F := Ideal) m ρ)

/-- Over the extended reals the tiled kernel and the reference compute the same matrix. -/
theorem algebraic : Cert.algebraic_KernelIdeal_ReferenceIdeal := by
  intro m ρ m' ρ' _ hagree
  refine ⟨_, Dense.run (F := Ideal) m ρ, ?_⟩
  refine (θ_run Cert.ReferenceIdeal.defs _ _).mono (fun _ h c => ⟨(h c).1.trans ?_, (h c).2⟩) (Plain.run (F := Ideal) m' ρ')
  rw [(hagree c).1, (hagree c).2]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
